-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S2048x12288 : Shape := ⟨2, ![2048, 12288]⟩
abbrev S12288 : Shape := ⟨1, ![12288]⟩
abbrev S6144x2048 : Shape := ⟨2, ![6144, 2048]⟩
abbrev S2048 : Shape := ⟨1, ![2048]⟩
abbrev S16384x2048 : Shape := ⟨2, ![16384, 2048]⟩
abbrev S1x12288 : Shape := ⟨2, ![1, 12288]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048x12288, .fp8e4m3⟩
  | .hbm, ⟨2, _⟩ => ⟨S12288, .f32⟩
  | .hbm, ⟨3, _⟩ => ⟨S6144x2048, .fp8e4m3⟩
  | .hbm, ⟨4, _⟩ => ⟨S2048, .f32⟩
  | .hbm, ⟨5, _⟩ => ⟨S16384x2048, .f32⟩
  | .hbm, ⟨6, _⟩ => ⟨S1x12288, .f32⟩
  | .hbm, ⟨7, _⟩ => ⟨S1x2048, .f32⟩
  | .hbm, ⟨8, _⟩ => ⟨S16384x2048, .f32⟩
  | .hbm, ⟨9, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x12288, .fp8e4m3⟩
  | .local _ .vmem, ⟨3, _⟩ => ⟨S1x12288, .f32⟩
  | .local _ .vmem, ⟨4, _⟩ => ⟨S6144x2048, .fp8e4m3⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6144x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x2048 : Shape := ⟨3, ![8, 2048, 2048]⟩
abbrev S2048x12288 : Shape := ⟨2, ![2048, 12288]⟩
abbrev S12288 : Shape := ⟨1, ![12288]⟩
abbrev S6144x2048 : Shape := ⟨2, ![6144, 2048]⟩
abbrev S2048 : Shape := ⟨1, ![2048]⟩
abbrev S8x2048x12288 : Shape := ⟨3, ![8, 2048, 12288]⟩
abbrev S1x1x12288 : Shape := ⟨3, ![1, 1, 12288]⟩
abbrev S8x2048x6144 : Shape := ⟨3, ![8, 2048, 6144]⟩
abbrev S1x1x2048 : Shape := ⟨3, ![1, 1, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048x12288, .fp8e4m3⟩
  | .hbm, ⟨2, _⟩ => ⟨S12288, .f32⟩
  | .hbm, ⟨3, _⟩ => ⟨S6144x2048, .fp8e4m3⟩
  | .hbm, ⟨4, _⟩ => ⟨S2048, .f32⟩
  | .hbm, ⟨5, _⟩ => ⟨S8x2048x2048, .f32⟩
  | .local _ .vmem, ⟨0, _⟩ => ⟨S8x2048x2048, .f32⟩
  | .local _ .vmem, ⟨1, _⟩ => ⟨S2048x12288, .fp8e4m3⟩
  | .local _ .vmem, ⟨2, _⟩ => ⟨S12288, .f32⟩
  | .local _ .vmem, ⟨3, _⟩ => ⟨S6144x2048, .fp8e4m3⟩
  | .local _ .vmem, ⟨4, _⟩ => ⟨S2048, .f32⟩
  | .local _ .vmem, ⟨5, _⟩ => ⟨S8x2048x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  What one grid point leaves in the output block, in the kernel's own operations: the twelve chunk products added first
  to last, times the output scales. The kernel stores the block twelve times, each store covering it whole and reading
  back the store before; read through, the loads and stores disappear.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Block

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A load of the whole block of what stores left, the last of which covers the block whole, reads that store's value. -/
theorem readCov_last {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A rank-2 rectangle is inside when it is on both axes. -/
theorem inb2 {o0 o1 n0 n1 N0 N1 : ℕ} (h0 : o0 + n0 ≤ N0) (h1 : o1 + n1 ≤ N1) (a : Fin 2) :
    (![o0, o1] : Fin 2 → ℕ) a + (![n0, n1] : Fin 2 → ℕ) a ≤ (![N0, N1] : Fin 2 → ℕ) a :=
  match a with | ⟨0, _⟩ => h0 | ⟨1, _⟩ => h1

section Chunk
variable (x0 : Vec F S512x2048 .f32) (x1 : Vec F S2048x12288 .fp8e4m3) (x2 : Vec F S1x12288 .f32) (x3 : Vec F S6144x2048 .fp8e4m3) (x4 : Vec F S1x2048 .f32)

/-- The rectangles of chunk `c`: the 512 columns of the first matrix at `512 c` (gate) and `6144 + 512 c` (up), the same
    columns of its scales, and the 512 rows of the second matrix. -/
abbrev colRect (o : ℕ) (h : o + 512 ≤ 12288) : Rect S2048x12288 :=
  Rect.unit ![0, o] ![2048, 512] (inb2 (Nat.le_refl _) h)
abbrev scaleRect (o : ℕ) (h : o + 512 ≤ 12288) : Rect S1x12288 :=
  Rect.unit ![0, o] ![1, 512] (inb2 (Nat.le_refl _) h)
abbrev rowRect (o : ℕ) (h : o + 512 ≤ 6144) : Rect S6144x2048 :=
  Rect.unit ![o, 0] ![512, 2048] (inb2 h (Nat.le_refl _))

/-- Chunk `c`'s product. -/
def chunk (c : ℕ) (hc : c < 12) : FVec F S512x2048 .f32 :=
  k0_pay3 x0 (View.ld x1 (colRect (512 * c) (by omega))) (View.ld x2 (scaleRect (512 * c) (by omega)))
    (View.ld x1 (colRect (6144 + 512 * c) (by omega))) (View.ld x2 (scaleRect (6144 + 512 * c) (by omega)))
    (View.ld x3 (rowRect (512 * c) (by omega)))

/-- The chunks' products up to chunk `n`, added first to last. -/
def sumTo : (n : ℕ) → n < 12 → FVec F S512x2048 .f32
  | 0, h => chunk x0 x1 x2 x3 0 h
  | n + 1, h => addf (sumTo n (Nat.lt_of_succ_lt h)) (chunk x0 x1 x2 x3 (n + 1) h)

end Chunk

/-! ### The chunks' spellings

The generated code cuts the unrolled body by length, so that a chunk is one function or three; they are all one. -/

/-- A chunk spelt as one function: what was there plus the chunk's product. -/
theorem pay7_eq (x : Vec F S512x2048 .f32) (wg : Vec F S2048x512 .fp8e4m3) (sg : Vec F S1x512 .f32) (wu : Vec F S2048x512 .fp8e4m3)
    (su : Vec F S1x512 .f32) (wd : Vec F S512x2048 .fp8e4m3) (o : Vec F S512x2048 .f32) :
    k0_pay7 (k0_pay2 x) wg sg wu su wd o = addf o (k0_pay3 x wg sg wu su wd) := by
  unfold k0_pay7 k0_pay3; dsimp only; rw [shapeCast_self (v := o)]

/-- A chunk spelt in three pieces is that one function. -/
theorem pay6_eq (x : Vec F S512x2048 .f32) (wg : Vec F S2048x512 .fp8e4m3) (sg : Vec F S1x512 .f32) (wu : Vec F S2048x512 .fp8e4m3)
    (su : Vec F S1x512 .f32) (wd : Vec F S512x2048 .fp8e4m3) (o : Vec F S512x2048 .f32) :
    k0_pay6 (k0_pay4 x wg sg) (k0_pay5 x wu) su wd o = addf o (k0_pay3 x wg sg wu su wd) :=
  (show _ = k0_pay7 (k0_pay2 x) wg sg wu su wd o from rfl).trans (pay7_eq ..)

theorem pay8_eq : k0_pay8 (F := F) = k0_pay7 := rfl
theorem pay12_eq : k0_pay12 (F := F) = k0_pay7 := rfl
theorem pay13_eq : k0_pay13 (F := F) = k0_pay7 := rfl
theorem pay17_eq : k0_pay17 (F := F) = k0_pay7 := rfl
theorem pay18_eq : k0_pay18 (F := F) = k0_pay7 := rfl
theorem pay22_eq : k0_pay22 (F := F) = k0_pay7 := rfl
theorem pay9_eq (x : Vec F S512x2048 .f32) : k0_pay9 (k0_pay2 x) = k0_pay4 x := rfl
theorem pay14_eq (x : Vec F S512x2048 .f32) : k0_pay14 (k0_pay2 x) = k0_pay4 x := rfl
theorem pay19_eq (x : Vec F S512x2048 .f32) : k0_pay19 (k0_pay2 x) = k0_pay4 x := rfl
theorem pay10_eq (x : Vec F S512x2048 .f32) : k0_pay10 (k0_pay2 x) = k0_pay5 x := rfl
theorem pay15_eq (x : Vec F S512x2048 .f32) : k0_pay15 (k0_pay2 x) = k0_pay5 x := rfl
theorem pay20_eq (x : Vec F S512x2048 .f32) : k0_pay20 (k0_pay2 x) = k0_pay5 x := rfl
theorem pay11_eq : k0_pay11 (F := F) = k0_pay6 := rfl
theorem pay16_eq : k0_pay16 (F := F) = k0_pay6 := rfl
theorem pay21_eq : k0_pay21 (F := F) = k0_pay6 := rfl

/-! ### The block -/

/-- The output block after the body: the twelve chunks' sum times the output scales. -/
theorem out_eq (c : Dev nD) (i : grid0.Coords) (arg1 : Memref sig .tc .vmem S512x2048 .f32) (h1 : arg1.IsWhole)
    (arg2 : Memref sig .tc .vmem S2048x12288 .fp8e4m3) (h2 : arg2.IsWhole) (arg3 : Memref sig .tc .vmem S1x12288 .f32) (h3 : arg3.IsWhole)
    (arg4 : Memref sig .tc .vmem S6144x2048 .fp8e4m3) (h4 : arg4.IsWhole) (arg5 : Memref sig .tc .vmem S1x2048 .f32) (h5 : arg5.IsWhole)
    (arg6 : Memref sig .tc .vmem S512x2048 .f32) (h6 : arg6.IsWhole)
    (x0 : Vec F S512x2048 .f32) (x1 : Vec F S2048x12288 .fp8e4m3) (x2 : Vec F S1x12288 .f32) (x3 : Vec F S6144x2048 .fp8e4m3)
    (x4 : Vec F S1x2048 .f32) :
    out0_A_5 c i arg1 h1 arg2 h2 arg3 h3 arg4 h4 arg5 h5 arg6 h6 x0 x1 x2 x3 x4
      = k0_pay1 (sumTo x0 x1 x2 x3 11 (by decide)) x4 := by
  unfold out0_A_5
  rw [View.read_writes_eq_canon _ _ _ (cover0_A_5 c i arg1 h1 arg2 h2 arg3 h3 arg4 h4 arg5 h5 arg6 h6 x0 x1 x2 x3 x4)]
  unfold kernelRun0_A
  dsimp only
  sl_unfold_words
  rw [View.canon_cons_unit_zero (S := S512x2048) hz]
  simp only [↓readCov_last (S := S512x2048) _ hz]
  simp only [View.readAt_eq_ld, h1.read_unread, h2.read_unread, h3.read_unread, h4.read_unread, h5.read_unread,
    View.ld_unit_zero (S := S512x2048) hz, View.ld_unit_zero (S := S1x2048) hz]
  simp only [pay8_eq, pay12_eq, pay13_eq, pay17_eq, pay18_eq, pay22_eq, pay9_eq, pay14_eq, pay19_eq, pay10_eq, pay15_eq, pay20_eq,
    pay11_eq, pay16_eq, pay21_eq, pay6_eq, pay7_eq]
  rfl

end Cert.KernelIdeal.Block

end
-- ==== Proof.Dots.lean ====
/-
  The matrix products of the two programs, read at an index over the extended reals: each is the plain sum over its one
  contracted axis.
-/
module

public import proofs.«01_k».proof.Proof.Gen.KernelIdeal
public import proofs.«01_k».proof.Proof.Gen.ReferenceIdeal
public import Idealize.ShloMosaic.Lib.ValueIdx

@[expose] public section

noncomputable section

namespace Cert.Dots

open Idealize.ShloMosaic Idealize.ShloMosaic.ValueIdx
open scoped BigOperators

/-- The word of `+0.0` is zero. -/
theorem ofBits_zero : Ideal.ofBits .f32 0x00000000#32 = 0 := by simp [Ideal.ofBits, Ideal.ieee]

/-- The logistic function of a vector at an index is the element's. -/
theorem logistic_apply {s : Shape} {φ : FTy} (a : FVec Ideal s φ) (i : s.Idx) : logistic a i = Ideal.logistic (a i) := rfl

/-- A product with a zero accumulator and one contracted axis of extent `n`, given where it reads its operands for each
    contraction index: the sum over `Fin n`. -/
theorem matmul_zero {sl sr so : Shape} (D : DotDims sl sr so) {n : ℕ} (hr : D.contr.rank = 1)
    (hs : D.contr.size ⟨0, by omega⟩ = n) {φ₁ φ₂ : FTy} (a : FVec Ideal sl φ₁) (b : FVec Ideal sr φ₂) (j : so.Idx)
    (L : Fin n → sl.Idx) (R : Fin n → sr.Idx) (hL : ∀ q, D.lhsIdx j q = L (contrEquiv1 D n hr hs q))
    (hR : ∀ q, D.rhsIdx j q = R (contrEquiv1 D n hr hs q)) :
    matmul D none a b (constant so .f32 0x00000000#32) j = ∑ k : Fin n, a (L k) * b (R k) := by
  show Ideal.ofBits .f32 0x00000000#32 + ∑ q : D.contr.Idx, a (D.lhsIdx j q) * b (D.rhsIdx j q) = _
  rw [ofBits_zero, zero_add, ← Equiv.sum_comp (contrEquiv1 D n hr hs)]
  simp only [hL, hR]

section Kernel
open Cert.KernelIdeal Cert.KernelIdeal.Gen

/-- The kernel's first product: a row block by a chunk of columns. -/
theorem kernel_in (a : FVec Ideal S512x2048 .bf16) (b : FVec Ideal S2048x512 .fp8e4m3) (r f : Fin 512) :
    matmul dot_S512x2048_S2048x512_S512x512_1_0_0_1_n_n none a b (constant S512x512 .f32 0x00000000#32) (ix2 r f)
      = ∑ k : Fin 2048, a (ix2 r k) * b (ix2 k f) := by
  refine matmul_zero _ (n := 2048) rfl rfl a b (ix2 r f) (fun k => ix2 r k) (fun k => ix2 k f) (fun q => ?_) (fun q => ?_)
  · funext x; apply Fin.ext
    match x with
    | ⟨0, _⟩ => simp [DotDims.lhsIdx, dot_S512x2048_S2048x512_S512x512_1_0_0_1_n_n]; rfl
    | ⟨1, _⟩ => simp [DotDims.lhsIdx, dot_S512x2048_S2048x512_S512x512_1_0_0_1_n_n]; rfl
  · funext x; apply Fin.ext
    match x with
    | ⟨0, _⟩ => simp [DotDims.rhsIdx, dot_S512x2048_S2048x512_S512x512_1_0_0_1_n_n]; rfl
    | ⟨1, _⟩ => simp [DotDims.rhsIdx, dot_S512x2048_S2048x512_S512x512_1_0_0_1_n_n]; rfl

/-- The kernel's second product: a chunk of hidden units by the chunk's rows. -/
theorem kernel_out (a : FVec Ideal S512x512 .bf16) (b : FVec Ideal S512x2048 .fp8e4m3) (r : Fin 512) (d : Fin 2048) :
    matmul dot_S512x512_S512x2048_S512x2048_1_0_0_1_n_n none a b (constant S512x2048 .f32 0x00000000#32) (ix2 r d)
      = ∑ k : Fin 512, a (ix2 r k) * b (ix2 k d) := by
  refine matmul_zero _ (n := 512) rfl rfl a b (ix2 r d) (fun k => ix2 r k) (fun k => ix2 k d) (fun q => ?_) (fun q => ?_)
  · funext x; apply Fin.ext
    match x with
    | ⟨0, _⟩ => simp [DotDims.lhsIdx, dot_S512x512_S512x2048_S512x2048_1_0_0_1_n_n]; rfl
    | ⟨1, _⟩ => simp [DotDims.lhsIdx, dot_S512x512_S512x2048_S512x2048_1_0_0_1_n_n]; rfl
  · funext x; apply Fin.ext
    match x with
    | ⟨0, _⟩ => simp [DotDims.rhsIdx, dot_S512x512_S512x2048_S512x2048_1_0_0_1_n_n]; rfl
    | ⟨1, _⟩ => simp [DotDims.rhsIdx, dot_S512x512_S512x2048_S512x2048_1_0_0_1_n_n]; rfl

end Kernel

section Reference
open Cert.ReferenceIdeal Cert.ReferenceIdeal.Gen

/-- The reference's first product: every token by every gate and up column. -/
theorem reference_in (a : FVec Ideal S8x2048x2048 .bf16) (b : FVec Ideal S2048x12288 .bf16) (i : Fin 8) (s : Fin 2048) (f : Fin 12288) :
    matmul dot_S8x2048x2048_S2048x12288_S8x2048x12288_2_0_01_1_n_n none a b (constant S8x2048x12288 .f32 0x00000000#32) (ix3 i s f)
      = ∑ k : Fin 2048, a (ix3 i s k) * b (ix2 k f) := by
  refine matmul_zero _ (n := 2048) rfl rfl a b (ix3 i s f) (fun k => ix3 i s k) (fun k => ix2 k f) (fun q => ?_) (fun q => ?_)
  · funext x; apply Fin.ext
    match x with
    | ⟨0, _⟩ => simp [DotDims.lhsIdx, dot_S8x2048x2048_S2048x12288_S8x2048x12288_2_0_01_1_n_n]; rfl
    | ⟨1, _⟩ => simp [DotDims.lhsIdx, dot_S8x2048x2048_S2048x12288_S8x2048x12288_2_0_01_1_n_n]; rfl
    | ⟨2, _⟩ => simp [DotDims.lhsIdx, dot_S8x2048x2048_S2048x12288_S8x2048x12288_2_0_01_1_n_n]; rfl
  · funext x; apply Fin.ext
    match x with
    | ⟨0, _⟩ => simp [DotDims.rhsIdx, dot_S8x2048x2048_S2048x12288_S8x2048x12288_2_0_01_1_n_n]; rfl
    | ⟨1, _⟩ => simp [DotDims.rhsIdx, dot_S8x2048x2048_S2048x12288_S8x2048x12288_2_0_01_1_n_n]; rfl

/-- The reference's second product: every token's hidden units by every output column. -/
theorem reference_out (a : FVec Ideal S8x2048x6144 .bf16) (b : FVec Ideal S6144x2048 .bf16) (i : Fin 8) (s d : Fin 2048) :
    matmul dot_S8x2048x6144_S6144x2048_S8x2048x2048_2_0_01_1_n_n none a b (constant S8x2048x2048 .f32 0x00000000#32) (ix3 i s d)
      = ∑ k : Fin 6144, a (ix3 i s k) * b (ix2 k d) := by
  refine matmul_zero _ (n := 6144) rfl rfl a b (ix3 i s d) (fun k => ix3 i s k) (fun k => ix2 k d) (fun q => ?_) (fun q => ?_)
  · funext x; apply Fin.ext
    match x with
    | ⟨0, _⟩ => simp [DotDims.lhsIdx, dot_S8x2048x6144_S6144x2048_S8x2048x2048_2_0_01_1_n_n]; rfl
    | ⟨1, _⟩ => simp [DotDims.lhsIdx, dot_S8x2048x6144_S6144x2048_S8x2048x2048_2_0_01_1_n_n]; rfl
    | ⟨2, _⟩ => simp [DotDims.lhsIdx, dot_S8x2048x6144_S6144x2048_S8x2048x2048_2_0_01_1_n_n]; rfl
  · funext x; apply Fin.ext
    match x with
    | ⟨0, _⟩ => simp [DotDims.rhsIdx, dot_S8x2048x6144_S6144x2048_S8x2048x2048_2_0_01_1_n_n]; rfl
    | ⟨1, _⟩ => simp [DotDims.rhsIdx, dot_S8x2048x6144_S6144x2048_S8x2048x2048_2_0_01_1_n_n]; rfl

end Reference

end Cert.Dots

end
-- ==== Proof.Formula.lean ====
/-
  The formula both programs compute, over the extended reals, one output element at a time.

  A token's row `x` (2048 numbers) is multiplied into the gate and up columns of the first weight matrix, each column
  scaled; the gate value `g` and the up value `u` of hidden unit `f` give `g · σ(g) · u` (SwiGLU); the hidden row is
  multiplied into the second weight matrix and each column scaled. Column `f` of the first matrix is the gate column of
  unit `f`, column `6144 + f` its up column.

  Beside the formula: a sum over the 6144 hidden units is the sum over 12 chunks of the sums over each chunk's 512.
-/
module

public import Idealize.ShloMosaic.PureOps.Ideal

@[expose] public section

noncomputable section

namespace Cert.Formula

open Idealize.ShloMosaic
open scoped BigOperators

/-- The gate column of hidden unit `f`. -/
def gateCol (f : Fin 6144) : Fin 12288 := ⟨f.val, by omega⟩
/-- The up column of hidden unit `f`. -/
def upCol (f : Fin 6144) : Fin 12288 := ⟨6144 + f.val, by omega⟩

/-- One scaled column of the first product: the row times column `j`, times the column's scale. -/
def column (x : Fin 2048 → EReal) (w : Fin 2048 → Fin 12288 → EReal) (s : Fin 12288 → EReal) (j : Fin 12288) : EReal :=
  (∑ k : Fin 2048, x k * w k j) * s j

/-- The gated hidden value of gate `g` and up value `u`. -/
def gated (g u : EReal) : EReal := g * Ideal.logistic g * u

/-- Hidden unit `f` of the row `x`. -/
def hidden (x : Fin 2048 → EReal) (w : Fin 2048 → Fin 12288 → EReal) (s : Fin 12288 → EReal) (f : Fin 6144) : EReal :=
  gated (column x w s (gateCol f)) (column x w s (upCol f))

/-- Output column `d` of the row `x`. -/
def output (x : Fin 2048 → EReal) (w : Fin 2048 → Fin 12288 → EReal) (s : Fin 12288 → EReal)
    (wd : Fin 6144 → Fin 2048 → EReal) (sd : Fin 2048 → EReal) (d : Fin 2048) : EReal :=
  (∑ f : Fin 6144, hidden x w s f * wd f d) * sd d

/-- Hidden unit `k` of chunk `c`. -/
def unit (c : Fin 12) (k : Fin 512) : Fin 6144 := ⟨512 * c.val + k.val, by omega⟩

/-- A sum over the hidden units, chunk by chunk. -/
theorem sum_chunks (t : Fin 6144 → EReal) : ∑ f : Fin 6144, t f = ∑ c : Fin 12, ∑ k : Fin 512, t (unit c k) := by
  rw [← Fintype.sum_prod_type', ← Equiv.sum_comp (finProdFinEquiv (m := 12) (n := 512))]
  refine Finset.sum_congr rfl fun p _ => congrArg t (Fin.ext ?_)
  simp [unit, finProdFinEquiv]; omega

end Cert.Formula

end
-- ==== Proof.BlockValue.lean ====
/-
  What one grid point leaves in the output block, over the extended reals: at row `r` and column `d` the formula's
  output of the block's row `r`.
-/
module

public import proofs.«01_k».proof.Proof.Block
public import proofs.«01_k».proof.Proof.Dots
public import proofs.«01_k».proof.Proof.Formula

@[expose] public section

noncomputable section

namespace Cert.KernelIdeal.Block

open Idealize.ShloMosaic Idealize.ShloMosaic.ValueIdx
open Cert.KernelIdeal Cert.KernelIdeal.Gen Cert.Formula
open scoped BigOperators

/-- A row of 512 scales broadcast down 512 rows, read at an index. -/
theorem broadcast_scale (v : FVec Ideal S1x512 .f32) (h : S1x512.ShapeCasts S1x512) (r f : Fin 512) :
    broadcastTo S512x512 (shapeCast S1x512 v h) broadcasts_S1x512_S512x512 (ix2 r f) = v (ix2 0 f) := by
  rw [shapeCast_self]
  exact broadcastTo_apply _ _ _ (ix2 0 f) fun a => match a with | ⟨0, _⟩ => rfl | ⟨1, _⟩ => rfl

/-- The output scales broadcast down the block's rows, read at an index. -/
theorem broadcast_out (v : FVec Ideal S1x2048 .f32) (h : S1x2048.ShapeCasts S1x2048) (r : Fin 512) (d : Fin 2048) :
    broadcastTo S512x2048 (shapeCast S1x2048 v h) broadcasts_S1x2048_S512x2048 (ix2 r d) = v (ix2 0 d) := by
  rw [shapeCast_self]
  exact broadcastTo_apply _ _ _ (ix2 0 d) fun a => match a with | ⟨0, _⟩ => rfl | ⟨1, _⟩ => rfl

/-- One chunk's product at an index, from the chunk's own operands. -/
theorem pay3_apply (x : Vec Ideal S512x2048 .f32) (wg : Vec Ideal S2048x512 .fp8e4m3) (sg : Vec Ideal S1x512 .f32)
    (wu : Vec Ideal S2048x512 .fp8e4m3) (su : Vec Ideal S1x512 .f32) (wd : Vec Ideal S512x2048 .fp8e4m3) (r : Fin 512) (d : Fin 2048) :
    k0_pay3 (F := Ideal) x wg sg wu su wd (ix2 r d)
      = ∑ k : Fin 512, gated ((∑ i : Fin 2048, x (ix2 r i) * wg (ix2 i k)) * sg (ix2 0 k))
          ((∑ i : Fin 2048, x (ix2 r i) * wu (ix2 i k)) * su (ix2 0 k)) * wd (ix2 k d) := by
  unfold k0_pay3 k0_pay2
  dsimp only
  rw [Dots.kernel_out]
  refine Finset.sum_congr rfl fun k _ => congrArg (· * _) ?_
  rw [shapeCast_self]
  simp only [truncf_apply, mulf_apply, Dots.logistic_apply]
  rw [broadcast_scale, broadcast_scale, Dots.kernel_in, Dots.kernel_in]
  rfl

section
variable (x0 : Vec Ideal S512x2048 .f32) (x1 : Vec Ideal S2048x12288 .fp8e4m3) (x2 : Vec Ideal S1x12288 .f32)
  (x3 : Vec Ideal S6144x2048 .fp8e4m3) (x4 : Vec Ideal S1x2048 .f32)

/-- The term hidden unit `f` adds to the block's element at row `r` and column `d`. -/
abbrev term (r : Fin 512) (d : Fin 2048) (f : Fin 6144) : EReal :=
  hidden (fun k => x0 (ix2 r k)) (fun k j => x1 (ix2 k j)) (fun j => x2 (ix2 0 j)) f * x3 (ix2 f d)

/-- Chunk `c`'s product at an index: the terms of the chunk's 512 hidden units. -/
theorem chunk_apply (c : ℕ) (hc : c < 12) (r : Fin 512) (d : Fin 2048) :
    chunk (F := Ideal) x0 x1 x2 x3 c hc (ix2 r d) = ∑ k : Fin 512, term x0 x1 x2 x3 r d (unit ⟨c, hc⟩ k) := by
  unfold chunk
  rw [pay3_apply]
  refine Finset.sum_congr rfl fun k _ => ?_
  have col (o : ℕ) (h : o + 512 ≤ 12288) (j : Fin 12288) (hj : j.val = o + k.val) (i : Fin 2048) :
      View.ld (Val := Elt Ideal) x1 (colRect o h) (ix2 i k) = x1 (ix2 i j) := by
    rw [View.ld_unit]
    exact extractStridedSlice_apply _ _ _ _ (ix2 i j) fun a => match a with | ⟨0, _⟩ => (Nat.zero_add _).symm | ⟨1, _⟩ => hj
  have scale (o : ℕ) (h : o + 512 ≤ 12288) (j : Fin 12288) (hj : j.val = o + k.val) :
      View.ld (Val := Elt Ideal) x2 (scaleRect o h) (ix2 0 k) = x2 (ix2 0 j) := by
    rw [View.ld_unit]
    exact extractStridedSlice_apply _ _ _ _ (ix2 0 j) fun a => match a with | ⟨0, _⟩ => rfl | ⟨1, _⟩ => hj
  have row : View.ld (Val := Elt Ideal) x3 (rowRect (512 * c) (by omega)) (ix2 k d) = x3 (ix2 (unit ⟨c, hc⟩ k) d) := by
    rw [View.ld_unit]
    exact extractStridedSlice_apply _ _ _ _ (ix2 _ d) fun a => match a with | ⟨0, _⟩ => rfl | ⟨1, _⟩ => (Nat.zero_add _).symm
  have hup : (upCol (unit ⟨c, hc⟩ k)).val = 6144 + 512 * c + k.val := by simp only [upCol, unit]; omega
  rw [row, scale _ _ (gateCol (unit ⟨c, hc⟩ k)) rfl, scale _ _ (upCol (unit ⟨c, hc⟩ k)) hup]
  simp only [col _ _ (gateCol (unit ⟨c, hc⟩ k)) rfl, col _ _ (upCol (unit ⟨c, hc⟩ k)) hup]
  rfl

/-- The chunks up to `n` at an index: the sum of the chunks' sums. -/
theorem sumTo_apply (r : Fin 512) (d : Fin 2048) : ∀ (n : ℕ) (h : n < 12), sumTo (F := Ideal) x0 x1 x2 x3 n h (ix2 r d)
    = ∑ c : Fin (n + 1), ∑ k : Fin 512, term x0 x1 x2 x3 r d (unit ⟨c.val, by omega⟩ k)
  | 0, h => by
    rw [Fin.sum_univ_one]; exact chunk_apply ..
  | n + 1, h => by
    rw [Fin.sum_univ_castSucc]
    show sumTo (F := Ideal) x0 x1 x2 x3 n _ (ix2 r d) + chunk (F := Ideal) x0 x1 x2 x3 (n + 1) h (ix2 r d) = _
    rw [sumTo_apply r d n, chunk_apply]
    rfl

/-- The block at row `r` and column `d` is the formula of the block's row `r`. -/
theorem block_apply (r : Fin 512) (d : Fin 2048) :
    k0_pay1 (F := Ideal) (sumTo x0 x1 x2 x3 11 (by decide)) x4 (ix2 r d)
      = output (fun k => x0 (ix2 r k)) (fun k j => x1 (ix2 k j)) (fun j => x2 (ix2 0 j)) (fun f e => x3 (ix2 f e)) (fun e => x4 (ix2 0 e)) d := by
  unfold k0_pay1
  rw [mulf_apply, broadcast_out, sumTo_apply, output, sum_chunks]

end

end Cert.KernelIdeal.Block

end
-- ==== Proof.ArrayValue.lean ====
/-
  What the kernel's arrays hold, over the extended reals. The grid's point `t` reads rows `512 t … 512 t + 511` of the
  flattened input and every other operand whole, and writes back the same rows of the flattened result; so the flattened
  result is the formula at every row and column (`array_eq`), and the reshapes before and after the grid carry it to
  the program's own arguments and result (`run`).
-/
module

public import proofs.«01_k».proof.Proof.BlockValue
public import Idealize.ShloMosaic.Lib.StableHlo.Run

@[expose] public section

set_option maxRecDepth 16384

noncomputable section

namespace Cert.KernelIdeal.Block

open Idealize.ShloMosaic Idealize.ShloMosaic.TcCoe Idealize.ShloMosaic.ValueIdx Idealize.SL.Sem
open Idealize.ShloMosaic.Pipeline (Dat)
open Cert.KernelIdeal Cert.KernelIdeal.Gen Cert.Formula

variable (m : (ℓ : Loc nD τ sig) → Buf (Elt Ideal) ℓ) (ρ : Dev nD → PrngReg)

/-! ### The blocks -/

/-- The row blocks of the input and of the result are point `t`'s. -/
theorem index_row : ∀ t : Fin cfg0.N, (win0_0.index t (0 : Fin 2) = t.val ∧ win0_0.index t (1 : Fin 2) = 0)
    ∧ win0_5.index t (0 : Fin 2) = t.val ∧ win0_5.index t (1 : Fin 2) = 0 :=
  (by decide +kernel : ∀ t : Fin grid0.N, _)

/-- The other operands' blocks are at index zero. -/
theorem index_whole : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ win0_4.index t (0 : Fin 2) = 0 ∧ win0_4.index t (1 : Fin 2) = 0 :=
  (by decide +kernel : ∀ t : Fin grid0.N, _)

/-- Row `r` of point `t`'s row block, as a row of the flattened array. -/
def rowOf (t : Fin cfg0.N) (r : Fin 512) : Fin 16384 := ⟨t.val * 512 + r.val, by have := t.isLt; have : cfg0.N = 32 := N_0; omega⟩

theorem emb0 (t : Fin cfg0.N) (r : Fin 512) (k : Fin 2048) : ((cfg0.win 0).blk t).view.emb (ix2 r k) = ix2 (rowOf t r) k := by
  obtain ⟨⟨e0, e1⟩, -⟩ := index_row t
  funext a; apply Fin.ext
  match a with
  | ⟨0, _⟩ => show win0_0.index t (0 : Fin 2) * 512 + 1 * r.val = t.val * 512 + r.val; omega
  | ⟨1, _⟩ => show win0_0.index t (1 : Fin 2) * 2048 + 1 * k.val = k.val; omega

theorem emb5 (t : Fin cfg0.N) (r : Fin 512) (d : Fin 2048) : ((cfg0.win 5).blk t).view.emb (ix2 r d) = ix2 (rowOf t r) d := by
  obtain ⟨-, e0, e1⟩ := index_row t
  funext a; apply Fin.ext
  match a with
  | ⟨0, _⟩ => show win0_5.index t (0 : Fin 2) * 512 + 1 * r.val = t.val * 512 + r.val; omega
  | ⟨1, _⟩ => show win0_5.index t (1 : Fin 2) * 2048 + 1 * d.val = d.val; omega

/-- Point `t`'s input rows. -/
theorem iblk0_apply (c : Dev nD) (t : Fin cfg0.N) (r : Fin 512) (k : Fin 2048) :
    iblk m c 0 t (ix2 r k) = V m c main_v0 (ix2 (rowOf t r) k) := by
  show V m c main_v0 (((cfg0.win 0).blk t).view.emb (ix2 r k)) = _; rw [emb0]

/-- The first weight matrix, whole. -/
theorem iblk1_apply (c : Dev nD) (t : Fin cfg0.N) (j : S2048x12288.Idx) : iblk m c 1 t j = V m c main_arg1 j := by
  obtain ⟨⟨e0, e1⟩, -⟩ := index_whole t
  show V m c main_arg1 (((cfg0.win 1).blk t).view.emb j) = _
  refine congrArg _ (funext fun a => Fin.ext ?_)
  match a with
  | ⟨0, _⟩ => show win0_1.index t (0 : Fin 2) * 2048 + 1 * (j 0).val = (j 0).val; omega
  | ⟨1, _⟩ => show win0_1.index t (1 : Fin 2) * 12288 + 1 * (j 1).val = (j 1).val; omega

/-- Its scales, whole. -/
theorem iblk2_apply (c : Dev nD) (t : Fin cfg0.N) (j : S1x12288.Idx) : iblk m c 2 t j = V m c main_v1 j := by
  obtain ⟨-, ⟨e0, e1⟩, -⟩ := index_whole t
  show V m c main_v1 (((cfg0.win 2).blk t).view.emb j) = _
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 12288 + 1 * (j 1).val = (j 1).val; omega

/-- The second weight matrix, whole. -/
theorem iblk3_apply (c : Dev nD) (t : Fin cfg0.N) (j : S6144x2048.Idx) : iblk m c 3 t j = V m c main_arg3 j := by
  obtain ⟨-, -, ⟨e0, e1⟩, -⟩ := index_whole t
  show V m c main_arg3 (((cfg0.win 3).blk t).view.emb j) = _
  refine congrArg _ (funext fun a => Fin.ext ?_)
  match a with
  | ⟨0, _⟩ => show win0_3.index t (0 : Fin 2) * 6144 + 1 * (j 0).val = (j 0).val; omega
  | ⟨1, _⟩ => show win0_3.index t (1 : Fin 2) * 2048 + 1 * (j 1).val = (j 1).val; omega

/-- Its scales, whole. -/
theorem iblk4_apply (c : Dev nD) (t : Fin cfg0.N) (j : S1x2048.Idx) : iblk m c 4 t j = V m c main_v2 j := by
  obtain ⟨-, -, -, e0, e1⟩ := index_whole t
  show V m c main_v2 (((cfg0.win 4).blk t).view.emb j) = _
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 2048 + 1 * (j 1).val = (j 1).val; omega

/-! ### The flattened result -/

/-- The flattened result: the formula at every row and column, of the operands as the grid finds them. -/
def flat (c : Dev nD) : Buf (Elt Ideal) ((c : Thread nD τ).loc main_v3) := fun i : S16384x2048.Idx =>
  output (fun k => V m c main_v0 (ix2 (i 0) k)) (fun k j => V m c main_arg1 (ix2 k j)) (fun j => V m c main_v1 (ix2 0 j))
    (fun f e => V m c main_arg3 (ix2 f e)) (fun e => V m c main_v2 (ix2 0 e)) (i 1)

/-- What point `t` writes back is the flattened result's rows of point `t`. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold outsAt0
  rw [out_eq]
  funext (j : S512x2048.Idx)
  obtain ⟨r, d, rfl⟩ : ∃ r d, j = ix2 r d := ⟨_, _, eq_ix2 j⟩
  show k0_pay1 (F := Ideal) _ _ (ix2 r d) = flat m c (((cfg0.win 5).blk t).view.emb (ix2 r d))
  rw [emb5, block_apply]
  simp only [iblk0_apply, iblk1_apply, iblk2_apply, iblk3_apply, iblk4_apply]
  rfl

/-- Every element of the result lies in the block of the point its row names. -/
theorem covered (i : S16384x2048.Idx) : ∃ t : Fin cfg0.N, (cfg0.win 5).flush t = true ∧ i ∈ ((cfg0.win 5).blk t).view.set := by
  obtain ⟨r, d, rfl⟩ : ∃ (r : Fin 16384) (d : Fin 2048), i = ix2 r d := ⟨_, _, eq_ix2 i⟩
  have ht : r.val / 512 < cfg0.N := by rw [show cfg0.N = 32 from N_0]; omega
  have hr : rowOf ⟨_, ht⟩ ⟨r.val % 512, by omega⟩ = r := Fin.ext (by show r.val / 512 * 512 + r.val % 512 = r.val; omega)
  exact ⟨⟨_, ht⟩, flush0_5 _, Finset.mem_map.mpr ⟨ix2 ⟨r.val % 512, by omega⟩ d, Finset.mem_univ _, (emb5 ..).trans (by rw [hr])⟩⟩

/-- So the result array after the grid is the flattened result. -/
theorem array_eq (c : Dev nD) : (dats m 0 c).arrAt 5 cfg0.N = flat m c :=
  (dats m 0 c).arrAt_eq_of_cover 5 (flat m c) (fun t _ => flushed_eq m c t) covered

/-! ### The reshapes around the grid -/

/-- The grid finds the flattened input, and both scale vectors as one row. -/
theorem V_v0 (c : Dev nD) : V m c main_v0 = shapeCast S16384x2048 (m ((c : Thread nD τ).loc main_arg0)) shapeCasts_S8x2048x2048_S16384x2048 := by
  unfold V V0 hostOps0; simp only [List.flatten_cons, List.flatten_nil, List.cons_append, List.nil_append]; after_results; rfl
theorem V_v1 (c : Dev nD) : V m c main_v1 = shapeCast S1x12288 (m ((c : Thread nD τ).loc main_arg2)) shapeCasts_S12288_S1x12288 := by
  unfold V V0 hostOps0; simp only [List.flatten_cons, List.flatten_nil, List.cons_append, List.nil_append]; after_results; rfl
theorem V_v2 (c : Dev nD) : V m c main_v2 = shapeCast S1x2048 (m ((c : Thread nD τ).loc main_arg4)) shapeCasts_S2048_S1x2048 := by
  unfold V V0 hostOps0; simp only [List.flatten_cons, List.flatten_nil, List.cons_append, List.nil_append]; after_results; rfl

/-- The program's result is the reshaped result array. -/
theorem tail_eq (c : Dev nD) : Pipeline.afterTail₀ cfgs (dats m) 0 (V0 m) [hostOps1] c main_v4
    = shapeCast S8x2048x2048 (flat m c) shapeCasts_S16384x2048_S8x2048x2048 := by
  have e : Pipeline.withArrays (cfgs 0).spec c (V0 m c) (fun w => (dats m 0 c).arrAt w (cfgs 0).N) (Proc.devRef .tc main_v3) = flat m c :=
    (Pipeline.withArrays_arr spec0 (by decide) c (V0 m c) (fun w => (dats m 0 c).arrAt w cfg0.N) 5).trans (array_eq m c)
  unfold Pipeline.afterTail₀ hostOps1
  simp only [List.flatten_cons, List.flatten_nil, List.cons_append, List.nil_append]
  after_results
  rw [e]; rfl

/-- The kernel's run: the result is the reshaped flattened result, the arguments end unchanged. -/
theorem run : θ_run defs (onTc (τ := τ) (main (F := Ideal))) ⟨m, fun _ => 0, ρ⟩ fun r => ∀ c : Dev nD,
      r.2.mem ((c.tc : Thread nD τ).loc main_v4) = shapeCast S8x2048x2048 (flat m c) shapeCasts_S16384x2048_S8x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Block

end
-- ==== Proof.Whole.lean ====
/-
  The formula over the programs' whole arrays: element `(b, s, d)` of the result is output column `d` of the row
  `(b, s)` of the input.
-/
module

public import proofs.«01_k».proof.Proof.Formula
public import Idealize.ShloMosaic.Lib.ValueIdx

@[expose] public section

noncomputable section

namespace Cert.Formula

open Idealize.ShloMosaic Idealize.ShloMosaic.ValueIdx

/-- The result array, from the input, the two weight matrices and their scales. -/
def whole (x : FVec Ideal ⟨3, ![8, 2048, 2048]⟩ .f32) (w : FVec Ideal ⟨2, ![2048, 12288]⟩ .fp8e4m3) (s : FVec Ideal ⟨1, ![12288]⟩ .f32)
    (wd : FVec Ideal ⟨2, ![6144, 2048]⟩ .fp8e4m3) (sd : FVec Ideal ⟨1, ![2048]⟩ .f32) : FVec Ideal ⟨3, ![8, 2048, 2048]⟩ .f32 :=
  fun i => output (fun k => x (ix3 (i 0) (i 1) k)) (fun k j => w (ix2 k j)) (fun j => s (ix1 j)) (fun f e => wd (ix2 f e)) (fun e => sd (ix1 e)) (i 2)

end Cert.Formula

end
-- ==== Proof.KernelValue.lean ====
/-
  The kernel's result array is the formula of its arguments: row `2048 b + s` of the flattened arrays is row `(b, s)` of
  the program's.
-/
module

public import proofs.«01_k».proof.Proof.ArrayValue
public import proofs.«01_k».proof.Proof.Whole

@[expose] public section

noncomputable section

namespace Cert.KernelIdeal.Block

open Idealize.ShloMosaic Idealize.ShloMosaic.TcCoe Idealize.ShloMosaic.ValueIdx Idealize.SL.Sem
open Cert.KernelIdeal Cert.KernelIdeal.Gen Cert.Formula

variable (m : (ℓ : Loc nD τ sig) → Buf (Elt Ideal) ℓ)

/-- Row `(b, s)` of the program's arrays, as a row of the flattened ones. -/
def flatRow (b : Fin 8) (s : Fin 2048) : Fin 16384 := ⟨b.val * 2048 + s.val, by omega⟩

/-- The row-major positions agree. -/
theorem rowMajor_flat (b : Fin 8) (s k : Fin 2048) :
    (S16384x2048.rowMajor (ix2 (flatRow b s) k)).val = (S8x2048x2048.rowMajor (ix3 b s k)).val := by
  rw [Shape.rowMajor_val_two, Shape.rowMajor_val_three]; rfl

/-- A vector as one row, read at an index. -/
theorem row_apply {n : ℕ} {α : Type} (x : (⟨1, ![n]⟩ : Shape).Idx → α) (h : (⟨1, ![n]⟩ : Shape).ShapeCasts ⟨2, ![1, n]⟩) (j : Fin n) :
    shapeCast ⟨2, ![1, n]⟩ x h (ix2 0 j) = x (ix1 j) :=
  shapeCast_apply _ _ _ _ (by rw [Shape.rowMajor_val_one, Shape.rowMajor_val_two]; show j.val = 0 * n + j.val; omega)

/-- The kernel's result is the formula of its arguments. -/
theorem value_eq (c : Dev nD) : shapeCast S8x2048x2048 (flat m c) shapeCasts_S16384x2048_S8x2048x2048
    = whole (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨b, s, d, rfl⟩ : ∃ (b : Fin 8) (s d : Fin 2048), i = ix3 b s d := ⟨_, _, _, eq_ix3 i⟩
  rw [shapeCast_apply _ _ _ (ix2 (flatRow b s) d) (rowMajor_flat b s d)]
  have hx (k : Fin 2048) : V m c main_v0 (ix2 (flatRow b s) k) = m ((c : Thread nD τ).loc main_arg0) (ix3 b s k) := by
    rw [V_v0]; exact shapeCast_apply _ _ _ _ (rowMajor_flat b s k).symm
  have hs (j : Fin 12288) : V m c main_v1 (ix2 0 j) = m ((c : Thread nD τ).loc main_arg2) (ix1 j) := by
    rw [V_v1]; exact row_apply _ _ j
  have hd (e : Fin 2048) : V m c main_v2 (ix2 0 e) = m ((c : Thread nD τ).loc main_arg4) (ix1 e) := by
    rw [V_v2]; exact row_apply _ _ e
  show output (fun k => V m c main_v0 (ix2 (flatRow b s) k)) (fun k j => V m c main_arg1 (ix2 k j)) (fun j => V m c main_v1 (ix2 0 j))
    (fun f e => V m c main_arg3 (ix2 f e)) (fun e => V m c main_v2 (ix2 0 e)) d = _
  simp only [hx, hs, hd, V_main_arg1, V_main_arg3]
  rfl

end Cert.KernelIdeal.Block

end
-- ==== Proof.ReferenceValue.lean ====
/-
  The reference's result array is the formula of its arguments: its two products over whole arrays, read at an index.
-/
module

public import proofs.«01_k».proof.Proof.Gen.ReferenceIdeal.Value
public import proofs.«01_k».proof.Proof.Dots
public import proofs.«01_k».proof.Proof.Whole

@[expose] public section

noncomputable section

namespace Cert.ReferenceIdeal.Value

open Idealize.ShloMosaic Idealize.ShloMosaic.ValueIdx
open Cert.ReferenceIdeal Cert.ReferenceIdeal.Gen Cert.Formula
open scoped BigOperators

/-- A vector along the last axis of a rank-3 array, broadcast over the other two, read at an index. -/
theorem broadcast_last {n : ℕ} (hn : n ≠ 1) {α : Type} (x : (⟨1, ![n]⟩ : Shape).Idx → α) (h : (⟨1, ![n]⟩ : Shape).ShapeCasts ⟨3, ![1, 1, n]⟩)
    (h' : (⟨3, ![1, 1, n]⟩ : Shape).Broadcasts ⟨3, ![8, 2048, n]⟩) (b : Fin 8) (s : Fin 2048) (j : Fin n) :
    broadcastTo ⟨3, ![8, 2048, n]⟩ (shapeCast ⟨3, ![1, 1, n]⟩ x h) h' (ix3 b s j) = x (ix1 j) := by
  rw [broadcastTo_apply _ _ _ (ix3 0 0 j) fun a => match a with | ⟨0, _⟩ => rfl | ⟨1, _⟩ => rfl | ⟨2, _⟩ => (if_neg hn).symm]
  exact shapeCast_apply _ _ _ _ (by rw [Shape.rowMajor_val_one, Shape.rowMajor_val_three]; show j.val = (0 * 1 + 0) * n + j.val; omega)

/-- The reference's result is the formula of its arguments. -/
theorem value_eq (x : Vec Ideal S8x2048x2048 .f32) (w : Vec Ideal S2048x12288 .fp8e4m3) (sc : Vec Ideal S12288 .f32)
    (wd : Vec Ideal S6144x2048 .fp8e4m3) (sd : Vec Ideal S2048 .f32) : G5 (F := Ideal) x w sc wd sd = whole x w sc wd sd := by
  funext i
  obtain ⟨b, s, d, rfl⟩ : ∃ (b : Fin 8) (s d : Fin 2048), i = ix3 b s d := ⟨_, _, _, eq_ix3 i⟩
  show k0_pay1 (F := Ideal) x w sc wd sd (ix3 b s d)
    = output (fun k => x (ix3 b s k)) (fun k j => w (ix2 k j)) (fun j => sc (ix1 j)) (fun f e => wd (ix2 f e)) (fun e => sd (ix1 e)) d
  unfold k0_pay1 output
  dsimp only
  rw [mulf_apply, broadcast_last (n := 2048) (by omega), Dots.reference_out]
  refine congrArg (fun z : EReal => z * sd (ix1 d)) (Finset.sum_congr rfl fun f _ => congrArg (fun z : EReal => z * wd (ix2 f d)) ?_)
  have lo (v : FVec Ideal S8x2048x12288 .f32) :
      extractStridedSlice S8x2048x6144 ![0, 0, 0] v slices_S8x2048x12288_o0_0_0_S8x2048x6144 (ix3 b s f) = v (ix3 b s (gateCol f)) :=
    extractStridedSlice_apply _ _ _ _ _ fun a => match a with
      | ⟨0, _⟩ => (Nat.zero_add _).symm | ⟨1, _⟩ => (Nat.zero_add _).symm | ⟨2, _⟩ => (Nat.zero_add _).symm
  have hi (v : FVec Ideal S8x2048x12288 .f32) :
      extractStridedSlice S8x2048x6144 ![0, 0, 6144] v slices_S8x2048x12288_o0_0_6144_S8x2048x6144 (ix3 b s f) = v (ix3 b s (upCol f)) :=
    extractStridedSlice_apply _ _ _ _ _ fun a => match a with
      | ⟨0, _⟩ => (Nat.zero_add _).symm | ⟨1, _⟩ => (Nat.zero_add _).symm | ⟨2, _⟩ => rfl
  simp only [truncf_apply, mulf_apply, Dots.logistic_apply, lo, hi]
  rw [broadcast_last (n := 12288) (by omega), broadcast_last (n := 12288) (by omega), Dots.reference_in, Dots.reference_in]
  rfl

end Cert.ReferenceIdeal.Value

end
-- ==== Proof.Equation.lean ====
/-
  The equation: run over the extended reals on the same arguments, the kernel and the reference end with the same result
  array, both the formula of the arguments.
-/
module

public import proofs.«01_k».proof.Defs
public import proofs.«01_k».proof.Proof.KernelValue
public import proofs.«01_k».proof.Proof.ReferenceValue

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)

/-- The formula of the arguments that a memory of the kernel holds. -/
def result (c : Dev Cert.KernelIdeal.nD) : Buf (Elt Ideal) ((c.tc : Thread Cert.KernelIdeal.nD Cert.KernelIdeal.τ).loc Cert.KernelIdeal.main_v4) :=
  Cert.Formula.whole (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- Both runs end with the formula of the arguments in the result, the arguments unchanged. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨result m, ?_, ?_⟩
  · refine (θ_run _ _ _).mono (fun r h c => ?_) (Cert.KernelIdeal.Block.run m g)
    exact ⟨(h c).1.trans (Cert.KernelIdeal.Block.value_eq m c), (h c).2⟩
  · refine (θ_run _ _ _).mono (fun r h c => ?_) (Cert.ReferenceIdeal.Value.run (F := Ideal) m' g')
    obtain ⟨e0, e1, e2, e3, e4⟩ := hargs c
    refine ⟨(h c).1.trans ((Cert.ReferenceIdeal.Value.value_eq _ _ _ _ _).trans ?_), (h c).2⟩
    rw [e0, e1, e2, e3, e4]
    rfl

end Cert.Proof

end
-- ==== Proof.lean ====
/-
  The claim: the frames of the three programs, the idealized kernel as an image of the printed one, and the equation of the
  kernel with the reference over the extended reals (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
